-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pruned [hPre_pruned : Cert.Pre_pruned.Facts] (m : (ℓ : Loc Cert.KernelIdeal.nD Cert.KernelIdeal.τ Cert.KernelIdeal.sig) → Buf (Elt Ideal) ℓ) : Prop :=
  ∀ c : Dev Cert.KernelIdeal.nD,
    (Cert.Pre_pruned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pruned [hPre_pruned : Cert.Pre_pruned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pruned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_pruned [hKernelIdeal : Cert.KernelIdeal.Facts] [hPre_pruned : Cert.Pre_pruned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pruned m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_pruned [hReferenceIdeal : Cert.ReferenceIdeal.Facts] [hPre_pruned : Cert.Pre_pruned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pruned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_pruned [hKernelIdeal : Cert.KernelIdeal.Facts] [hReferenceIdeal : Cert.ReferenceIdeal.Facts] [hPre_pruned : Cert.Pre_pruned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pruned m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pruned : Cert.Pre_pruned.Facts),
    quiescent_Kernel (hKernel := hKernel)
    ∧ quiescent_KernelIdeal (hKernelIdeal := hKernelIdeal)
    ∧ quiescent_KernelIdeal_pre_pruned (hKernelIdeal := hKernelIdeal) (hPre_pruned := hPre_pruned)
    ∧ quiescent_ReferenceIdeal (hReferenceIdeal := hReferenceIdeal)
    ∧ quiescent_ReferenceIdeal_pre_pruned (hReferenceIdeal := hReferenceIdeal) (hPre_pruned := hPre_pruned)
    ∧ preserves_Kernel_KernelIdeal
    ∧ algebraic_KernelIdeal_ReferenceIdeal_pre_pruned (hKernelIdeal := hKernelIdeal) (hReferenceIdeal := hReferenceIdeal) (hPre_pruned := hPre_pruned)
-- ==== Pre_pruned.lean ====
abbrev S16x4096 : Shape := ⟨2, ![16, 4096]⟩
abbrev S4096x4096 : Shape := ⟨2, ![4096, 4096]⟩
abbrev S4096 : Shape := ⟨1, ![4096]⟩
abbrev S_ : Shape := ⟨0, ![]⟩

class Facts : Prop where
  reducesTo_S4096x4096_S_d0_1 : S4096x4096.ReducesTo [0, 1] S_
  h_S_ : 0 < S_.numel

variable [Facts]

def fn {F : FTy → Type} [FloatOps F] (main_arg0 : FVec F S16x4096 .f32) (main_arg1 : FVec F S4096x4096 .f32) (main_arg2 : FVec F S4096x4096 .f32) (main_arg3 : FVec F S4096 .f32) : IVec S_ 1 :=
  let main_v0 : FVec F S4096x4096 .f32 := mulf main_arg1 main_arg2
  let main_v1 : IVec S4096x4096 1 := cmpf .oeq main_v0 main_arg1
  let main_c : IVec S_ 1 := constantI S_ 1 1#1
  let main_v2 : IVec S_ 1 := (fun x v => Host.reduce IntOp.andi x v reducesTo_S4096x4096_S_d0_1 h_S_) main_v1 main_c
  main_v2
-- ==== Kernel.lean ====
abbrev S16x4096 : Shape := ⟨2, ![16, 4096]⟩
abbrev S4096x4096 : Shape := ⟨2, ![4096, 4096]⟩
abbrev S4096 : Shape := ⟨1, ![4096]⟩
abbrev S1x4096 : Shape := ⟨2, ![1, 4096]⟩
abbrev S4x512x4096 : Shape := ⟨3, ![4, 512, 4096]⟩
abbrev S4 : Shape := ⟨1, ![4]⟩
abbrev S1 : Shape := ⟨1, ![1]⟩
abbrev S_ : Shape := ⟨0, ![]⟩
abbrev S1x128x4096 : Shape := ⟨3, ![1, 128, 4096]⟩
abbrev S128x4096 : Shape := ⟨2, ![128, 4096]⟩
abbrev S1x256x4096 : Shape := ⟨3, ![1, 256, 4096]⟩
abbrev S256x4096 : Shape := ⟨2, ![256, 4096]⟩
abbrev S1x512x4096 : Shape := ⟨3, ![1, 512, 4096]⟩
abbrev S512x4096 : Shape := ⟨2, ![512, 4096]⟩
abbrev S16x128 : Shape := ⟨2, ![16, 128]⟩
abbrev S16x256 : Shape := ⟨2, ![16, 256]⟩
abbrev S16x512 : Shape := ⟨2, ![16, 512]⟩

abbrev nBuf : Space → Nat
  | .hbm => 6
  | .vmem => 4
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S16x4096, .f32⟩
  | .local _ .vmem, ⟨0, _⟩ => ⟨S16x4096, .f32⟩
  | .local _ .vmem, ⟨1, _⟩ => ⟨S1x4096, .f32⟩
  | .local _ .vmem, ⟨2, _⟩ => ⟨S16x4096, .f32⟩
  | .local _ .vmem, ⟨3, _⟩ => ⟨S4x512x4096, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16x4096 : Shape := ⟨2, ![16, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S16x4096, .f32⟩
  | .hbm, ⟨6, _⟩ => ⟨S1x4096, .f32⟩
  | .hbm, ⟨7, _⟩ => ⟨S16x4096, .f32⟩
  | .hbm, ⟨8, _⟩ => ⟨S16x4096, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Layer.Kit.lean ====
/- What the launch of the kernel hands its body, conjunct by conjunct: the staging buffers, the scratch of four row
   buffers, the four transfer semaphores, and the weights, which stay in HBM. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Each window's current staging memref at point `t`. -/
abbrev stX (t : Fin cfg0.N) : Memref sig .tc .vmem S16x4096 .f32 := win0_0.stage (cfg0.slots t 0)
abbrev stB (t : Fin cfg0.N) : Memref sig .tc .vmem S1x4096 .f32 := win0_1.stage (cfg0.slots t 1)
abbrev stO (t : Fin cfg0.N) : Memref sig .tc .vmem S16x4096 .f32 := win0_2.stage (cfg0.slots t 2)

/-- The four row buffers. -/
abbrev bufM : Memref sig .tc .vmem S4x512x4096 .f32 := Memref.whole cc0_scratch0
/-- The weights, in HBM. -/
abbrev wM : Memref sig .tc .hbm S4096x4096 .f32 := Memref.whole main_arg1

/-- The contents of a memref's whole buffer on core `c`, and that buffer held at `f`. -/
abbrev BufOf (c : Dev nD) {sp : Space} {S : Shape} {e : EltTy} (M : Memref sig .tc sp S e) : Type :=
  Buf (Elt F) (M.view.loc (c : Thread nD τ))
abbrev ptOf (c : Dev nD) {sp : Space} {S : Shape} {e : EltTy} (M : Memref sig .tc sp S e) (f : BufOf (F := F) c M) : sProp 𝕄 :=
  M.view.loc (c : Thread nD τ) ↦{fullShare} f

/-- The transfer semaphores of the kernel's own. -/
abbrev osem : Fin 4 → SemLoc sig := fun j => (![SemLoc.dma 3, SemLoc.dma 4, SemLoc.dma 5, SemLoc.dma 6] : Fin 4 → SemLoc sig) j
theorem ownSemFacts : Pipeline.OwnSemFacts spec0 osem := by decide

/-- The four semaphores at zero, one by one. -/
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0) := by
  rw [Pipeline.ownSems0_eq_of_list c osem [0, 1, 2, 3] (by decide) (by decide)]; rfl

/-- The one operand that stays in HBM. -/
def hbmRefs : Finset (Ref sig .tc) := {main_arg1}
theorem hbmRefs_sub : hbmRefs ⊆ Pipeline.restRefs sig spec0 := by decide

theorem hbmPts_eq (c : Dev nD) :
    (bigSep hbmRefs (fun b => ((c : Thread nD τ).loc b) ↦{fullShare} V m c b) : sProp 𝕄)
      = iprop(ptOf c wM (V m c main_arg1)) := by
  rw [BI.bigSep_eq_bigSepL_of_eq [main_arg1] (by decide) (by decide)]; rfl

/-- The body's invariant: the row buffers at some contents, the generator register at some state, the semaphores
    at zero, the weights as launched. -/
theorem inv_eq (c : Dev nD) :
    (Pipeline.ΦD osem spec0 hbmRefs (V m) c : sProp 𝕄)
      = iprop(iprop((∃ d, owns (c : Thread nD τ) bufM fullShare d)) ∗ (∃ r, prngReg c r)
          ∗ iprop(semVal ((c : Thread nD τ), SemLoc.dma 3) 0 ∗ semVal ((c : Thread nD τ), SemLoc.dma 4) 0
              ∗ semVal ((c : Thread nD τ), SemLoc.dma 5) 0 ∗ semVal ((c : Thread nD τ), SemLoc.dma 6) 0)
          ∗ iprop(ptOf c wM (V m c main_arg1))) := by
  rw [Pipeline.ΦD_eq, scopedRest0_eq, ownSems_eq, hbmPts_eq]; simp only [bufM, owns_whole]; try rfl

end Cert.KernelIdeal.Layer

end
-- ==== Proof.Layer.Slots.lean ====
/- Reading one of the row buffers after a run of transfers into them. The buffers are the four planes of one array; a
   transfer fills the first rows of one plane. What a plane then holds is what the latest transfer into it brought, and
   transfers into the other planes do not touch it. -/
module

public import proofs.«01_k».proof.Proof.Layer.Kit
public import Idealize.ShloMosaic.Lib.VecWindow
public import Idealize.ShloMosaic.Lib.WholeRead
public import Idealize.ShloMosaic.Lib.Pipeline.Value

@[expose] public section

noncomputable section

namespace Cert.KernelIdeal.Layer

open Cert.KernelIdeal.Gen
open Idealize.ShloMosaic Idealize.ShloMosaic.TcCoe

variable {sg : RefSig} {κ : Kind} {cs : Space} {s s₁ s₂ : Shape} {e : EltTy} {Val : EltTy → Type}

/-- A plane read after a transfer into it: what the transfer brought. -/
theorem plane_hit (M : Memref sg κ cs s e) (r : Rect s) (h h' : ∀ a, r.stride a = 1) (hq : r.shape.Squeezes s₁)
    (hc : r.shape.ShapeCasts s₁) (f : M.view.ty.Contents Val) (w : s₁.Idx → Val e) :
    shapeCast s₁ (M.view.readAt Val r.toLoadRect (View.write Val ((M.slice r h').squeeze s₁ hq).view f w Finset.univ)) hc = w :=
  (Memref.read_squeeze_slice M r h hq hc _).symm.trans (View.read_write_univ _ _)

/-- A plane read after a transfer into another one: what it held before. Two rectangles of disjoint extent on some
    axis share no element. -/
theorem plane_miss (M : Memref sg κ cs s e) {off off' size size' : Fin s.rank → ℕ}
    (inb : ∀ a, off a + size a ≤ s.size a) (inb' : ∀ a, off' a + size' a ≤ s.size a)
    (h' : ∀ a, (Rect.unit off' size' inb').stride a = 1) (hq : (Rect.unit off' size' inb').shape.Squeezes s₂)
    (a : Fin s.rank) (hd : off a + size a ≤ off' a ∨ off' a + size' a ≤ off a)
    (f : M.view.ty.Contents Val) (w : s₂.Idx → Val e) :
    M.view.readAt Val (Rect.unit off size inb).toLoadRect
        (View.write Val ((M.slice (Rect.unit off' size' inb') h').squeeze s₂ hq).view f w Finset.univ)
      = M.view.readAt Val (Rect.unit off size inb).toLoadRect f := by
  rw [View.readAt_rect, View.readAt_rect]
  refine View.read_congr fun i hi => View.write_of_not_mem _ _ _ fun hi' => ?_
  have hi'' : i ∈ (M.view.slice (Rect.unit off' size' inb')).set := by
    have hset := Memref.set_view_squeeze (M.slice (Rect.unit off' size' inb') h') hq
    exact hset ▸ hi'
  rw [View.set_slice] at hi hi''
  obtain ⟨x, hx, rfl⟩ := Finset.mem_map.mp hi
  have hy := (Finset.mem_map' M.view.emb).mp hi''
  rw [Rect.mem_set_unit] at hx hy
  have := hx a; have := hy a
  omega

end Cert.KernelIdeal.Layer

end
-- ==== Proof.Layer.Out.lean ====
/- What the kernel leaves in its output block: the bias added to the product of the first 128 columns of `x` and rows of
   the weights, then one more block product added at a time, ten in all. The rows are the weights' own. -/
module

public import proofs.«01_k».proof.Proof.Layer.Kit
public import Idealize.ShloMosaic.Lib.Pipeline.Value

@[expose] public section

set_option maxRecDepth 16384

noncomputable section

namespace Cert.KernelIdeal.Layer

open Cert.KernelIdeal.Gen
open Idealize.ShloMosaic Idealize.ShloMosaic.TcCoe

variable {F : FTy → Type} [FloatOps F]

/-- `x`'s columns `[k, k + 128)`, `[k, k + 256)`, `[k, k + 512)`. -/
abbrev cols128 (x : Vec F S16x4096 .f32) (k : ℕ) (h : ∀ a, (![0, k] : Fin 2 → ℕ) a + S16x128.size a ≤ S16x4096.size a) : Vec F S16x128 .f32 :=
  fun i => x ((Rect.unit (s := S16x4096) ![0, k] S16x128.size h).emb i)
abbrev cols256 (x : Vec F S16x4096 .f32) (k : ℕ) (h : ∀ a, (![0, k] : Fin 2 → ℕ) a + S16x256.size a ≤ S16x4096.size a) : Vec F S16x256 .f32 :=
  fun i => x ((Rect.unit (s := S16x4096) ![0, k] S16x256.size h).emb i)
abbrev cols512 (x : Vec F S16x4096 .f32) (k : ℕ) (h : ∀ a, (![0, k] : Fin 2 → ℕ) a + S16x512.size a ≤ S16x4096.size a) : Vec F S16x512 .f32 :=
  fun i => x ((Rect.unit (s := S16x4096) ![0, k] S16x512.size h).emb i)

/-- The weights' rows `[k, k + 128)`, `[k, k + 256)`, `[k, k + 512)`. -/
abbrev rows128 (w : Vec F S4096x4096 .f32) (k : ℕ) (h : ∀ a, (![k, 0] : Fin 2 → ℕ) a + S128x4096.size a ≤ S4096x4096.size a) : Vec F S128x4096 .f32 :=
  fun i => w ((Rect.unit (s := S4096x4096) ![k, 0] S128x4096.size h).emb i)
abbrev rows256 (w : Vec F S4096x4096 .f32) (k : ℕ) (h : ∀ a, (![k, 0] : Fin 2 → ℕ) a + S256x4096.size a ≤ S4096x4096.size a) : Vec F S256x4096 .f32 :=
  fun i => w ((Rect.unit (s := S4096x4096) ![k, 0] S256x4096.size h).emb i)
abbrev rows512 (w : Vec F S4096x4096 .f32) (k : ℕ) (h : ∀ a, (![k, 0] : Fin 2 → ℕ) a + S512x4096.size a ≤ S4096x4096.size a) : Vec F S512x4096 .f32 :=
  fun i => w ((Rect.unit (s := S4096x4096) ![k, 0] S512x4096.size h).emb i)

/-- The block products, into a zero accumulator. -/
abbrev prod128 (x : Vec F S16x128 .f32) (w : Vec F S128x4096 .f32) : Vec F S16x4096 .f32 :=
  matmul dot_S16x128_S128x4096_S16x4096_1_0_0_1_n_n none x w (constant S16x4096 .f32 0x00000000#32)
abbrev prod256 (x : Vec F S16x256 .f32) (w : Vec F S256x4096 .f32) : Vec F S16x4096 .f32 :=
  matmul dot_S16x256_S256x4096_S16x4096_1_0_0_1_n_n none x w (constant S16x4096 .f32 0x00000000#32)
abbrev prod512 (x : Vec F S16x512 .f32) (w : Vec F S512x4096 .f32) : Vec F S16x4096 .f32 :=
  matmul dot_S16x512_S512x4096_S16x4096_1_0_0_1_n_n none x w (constant S16x4096 .f32 0x00000000#32)

/-- The first block product with the bias row under every row. -/
def acc0 (x : Vec F S16x4096 .f32) (b : Vec F S1x4096 .f32) (w : Vec F S4096x4096 .f32) : Vec F S16x4096 .f32 :=
  addf (prod128 (cols128 x 0 inb_S16x4096_S16x128_0_0) (rows128 w 0 inb_S4096x4096_S128x4096_0_0))
    (broadcastTo S16x4096 b broadcasts_S1x4096_S16x4096)
/-- The second and third blocks added. -/
def acc2 (x : Vec F S16x4096 .f32) (b : Vec F S1x4096 .f32) (w : Vec F S4096x4096 .f32) : Vec F S16x4096 .f32 :=
  addf (addf (acc0 x b w)
    (prod128 (cols128 x 128 inb_S16x4096_S16x128_0_128) (rows128 w 128 inb_S4096x4096_S128x4096_128_0)))
    (prod256 (cols256 x 256 inb_S16x4096_S16x256_0_256) (rows256 w 256 inb_S4096x4096_S256x4096_256_0))
/-- The seven blocks of 512 added, first to last. -/
def out (x : Vec F S16x4096 .f32) (b : Vec F S1x4096 .f32) (w : Vec F S4096x4096 .f32) : Vec F S16x4096 .f32 :=
  addf (addf (addf (addf (addf (addf (addf (acc2 x b w)
    (prod512 (cols512 x 512 inb_S16x4096_S16x512_0_512) (rows512 w 512 inb_S4096x4096_S512x4096_512_0)))
    (prod512 (cols512 x 1024 inb_S16x4096_S16x512_0_1024) (rows512 w 1024 inb_S4096x4096_S512x4096_1024_0)))
    (prod512 (cols512 x 1536 inb_S16x4096_S16x512_0_1536) (rows512 w 1536 inb_S4096x4096_S512x4096_1536_0)))
    (prod512 (cols512 x 2048 inb_S16x4096_S16x512_0_2048) (rows512 w 2048 inb_S4096x4096_S512x4096_2048_0)))
    (prod512 (cols512 x 2560 inb_S16x4096_S16x512_0_2560) (rows512 w 2560 inb_S4096x4096_S512x4096_2560_0)))
    (prod512 (cols512 x 3072 inb_S16x4096_S16x512_0_3072) (rows512 w 3072 inb_S4096x4096_S512x4096_3072_0)))
    (prod512 (cols512 x 3584 inb_S16x4096_S16x512_0_3584) (rows512 w 3584 inb_S4096x4096_S512x4096_3584_0))

/-! Each value the body stores, its operands named. -/

theorem pay2_out {x : Vec F S16x128 .f32} {v : Vec F S1x128x4096 .f32} {b b' : Vec F S1x4096 .f32} {X : Vec F S16x128 .f32}
    {W : Vec F S128x4096 .f32} (hx : x = X) (hw : shapeCast S128x4096 v shapeCasts_S1x128x4096_S128x4096 = W) (hb : b = b') :
    k0_pay2 x v b = addf (prod128 X W) (broadcastTo S16x4096 b' broadcasts_S1x4096_S16x4096) := by
  subst hx hw hb; unfold k0_pay2; dsimp only; rw [shapeCast_self]

theorem pay3_out {x X : Vec F S16x128 .f32} {v : Vec F S1x128x4096 .f32} {a A : Vec F S16x4096 .f32} {W : Vec F S128x4096 .f32}
    (hx : x = X) (hw : shapeCast S128x4096 v shapeCasts_S1x128x4096_S128x4096 = W) (ha : a = A) :
    k0_pay3 x v a = addf A (prod128 X W) := by
  subst hx hw ha; unfold k0_pay3; dsimp only; rw [shapeCast_self]

theorem pay4_out {x X : Vec F S16x256 .f32} {v : Vec F S1x256x4096 .f32} {a A : Vec F S16x4096 .f32} {W : Vec F S256x4096 .f32}
    (hx : x = X) (hw : shapeCast S256x4096 v shapeCasts_S1x256x4096_S256x4096 = W) (ha : a = A) :
    k0_pay4 x v a = addf A (prod256 X W) := by
  subst hx hw ha; unfold k0_pay4; dsimp only; rw [shapeCast_self]

theorem pay5_out {x X : Vec F S16x512 .f32} {v : Vec F S1x512x4096 .f32} {a A : Vec F S16x4096 .f32} {W : Vec F S512x4096 .f32}
    (hx : x = X) (hw : shapeCast S512x4096 v shapeCasts_S1x512x4096_S512x4096 = W) (ha : a = A) :
    k0_pay5 x v a = addf A (prod512 X W) := by
  subst hx hw ha; unfold k0_pay5; dsimp only; rw [shapeCast_self]

theorem pay6_out {x X : Vec F S16x512 .f32} {v : Vec F S1x512x4096 .f32} {a A : Vec F S16x4096 .f32} {W : Vec F S512x4096 .f32}
    (hx : x = X) (hw : shapeCast S512x4096 v shapeCasts_S1x512x4096_S512x4096 = W) (ha : a = A) :
    k0_pay6 x v a = addf A (prod512 X W) := by
  subst hx hw ha; unfold k0_pay6; dsimp only; rw [shapeCast_self]

theorem pay7_out {x X : Vec F S16x512 .f32} {v : Vec F S1x512x4096 .f32} {a A : Vec F S16x4096 .f32} {W : Vec F S512x4096 .f32}
    (hx : x = X) (hw : shapeCast S512x4096 v shapeCasts_S1x512x4096_S512x4096 = W) (ha : a = A) :
    k0_pay7 x v a = addf A (prod512 X W) := by
  subst hx hw ha; unfold k0_pay7; dsimp only; rw [shapeCast_self]

theorem pay8_out {x X : Vec F S16x512 .f32} {v : Vec F S1x512x4096 .f32} {a A : Vec F S16x4096 .f32} {W : Vec F S512x4096 .f32}
    (hx : x = X) (hw : shapeCast S512x4096 v shapeCasts_S1x512x4096_S512x4096 = W) (ha : a = A) :
    k0_pay8 x v a = addf A (prod512 X W) := by
  subst hx hw ha; unfold k0_pay8; dsimp only; rw [shapeCast_self]

theorem pay11_out {x X : Vec F S16x512 .f32} {v : Vec F S1x512x4096 .f32} {a A : Vec F S16x4096 .f32} {W : Vec F S512x4096 .f32}
    (hx : x = X) (hw : shapeCast S512x4096 v shapeCasts_S1x512x4096_S512x4096 = W) (ha : a = A) :
    k0_pay11 x v a = addf A (prod512 X W) := by
  subst hx hw ha; unfold k0_pay11; dsimp only; rw [shapeCast_self]

theorem pay10_out {x X : Vec F S16x512 .f32} {v : Vec F S1x512x4096 .f32} {a A : Vec F S16x4096 .f32} {W : Vec F S512x4096 .f32}
    (hx : x = X) (hw : shapeCast S512x4096 v shapeCasts_S1x512x4096_S512x4096 = W) (ha : a = A) :
    k0_pay10 (k0_pay9 x v) a = addf A (prod512 X W) := by
  subst hx hw ha; unfold k0_pay10 k0_pay9; dsimp only; rw [shapeCast_self]

theorem pay1_out {x X : Vec F S16x512 .f32} {v : Vec F S1x512x4096 .f32} {a A : Vec F S16x4096 .f32} {W : Vec F S512x4096 .f32}
    (hx : x = X) (hw : shapeCast S512x4096 v shapeCasts_S1x512x4096_S512x4096 = W) (ha : a = A) :
    k0_pay1 x (k0_pay12 v) a = addf A (prod512 X W) := by
  subst hx hw ha; unfold k0_pay1 k0_pay12; dsimp only; rw [shapeCast_self]

end Cert.KernelIdeal.Layer

end
-- ==== Proof.Layer.Body.lean ====
/- One run of the kernel's body. It starts a copy of three row blocks of the weights, then for each of the ten blocks
   starts the copy three blocks on, waits for its own, and adds that block's product to the output. Every copy a buffer
   is read after has landed, and the next copy into the buffer starts only after that read. -/
module

public import proofs.«01_k».proof.Proof.Layer.Slots
public import proofs.«01_k».proof.Proof.Layer.Out

@[expose] public section

set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 1000000 in set_option sl_exec.dmaWindow true in set_option sl_exec.dmaWindowSet true in
/-- From the two staged inputs, the weights and four idle semaphores, the body ends with the output at `out`: the ten
    block products and the bias, in the order the body adds them. The inputs and the weights are as they were. -/
theorem body_run (c : Dev nD) (arg0 : Memref sig .tc .vmem S16x4096 .f32) (harg0 : arg0.IsWhole)
    (arg2 : Memref sig .tc .vmem S1x4096 .f32) (harg2 : arg2.IsWhole)
    (arg3 : Memref sig .tc .vmem S16x4096 .f32) (harg3 : arg3.IsWhole)
    (arg4 : Memref sig .tc .vmem S4x512x4096 .f32) (harg4 : arg4.IsWhole)
    (x0 : Vec F S16x4096 .f32) (x1 : Vec F S1x4096 .f32) (fh0 : BufOf (F := F) c wM)
    (W : Waits sig Unit) (K : PUnit → sProp 𝕄) :
    iprop(owns (c : Thread nD τ) arg0 fullShare x0 ∗ owns (c : Thread nD τ) arg2 fullShare x1 ∗ (∃ d, owns (c : Thread nD τ) arg3 fullShare d) ∗ (∃ d, owns (c : Thread nD τ) arg4 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ ptOf c wM fh0 ∗ owes (c : Thread nD τ) 0 W
            ∗ (iprop(owns (c : Thread nD τ) arg0 fullShare x0 ∗ owns (c : Thread nD τ) arg2 fullShare x1 ∗ (owns (c : Thread nD τ) arg3 fullShare (out x0 x1 fh0)) ∗ (∃ d, owns (c : Thread nD τ) arg4 fullShare d) ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ ptOf c wM fh0 ∗ (∃ W', owes (c : Thread nD τ) 0 W')) -∗ K ⟨⟩))
          ⊢ wp frame (wpE (defs₀ (F := F)) Variants.none c none) Set.univ (cc0__masked_linear_kernel arg0 harg0 (Memref.whole main_arg1) (Memref.isWhole_whole _) arg2 harg2 arg3 harg3 arg4 harg4 cc0_scratch1) K := by
    simp only [cc0__masked_linear_kernel_eq_skeleton]; unfold cc0__masked_linear_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%d2, %f2, -, H2⟩, ⟨%ds0, %fs0, -, HS0⟩, Hq0, Hq1, Hq2, Hq3, Hh0, HW, Hk⟩
    obtain rfl := harg0.eq_unread hf0; obtain rfl := harg2.eq_unread hf1
    sl_exec
    sl_step
    iapply Hk
    isplitl [H0]
    · iexists _; isplitr; · ipureintro; exact harg0.read_unread _
      iexact H0
    isplitl [H1]
    · iexists _; isplitr; · ipureintro; exact harg2.read_unread _
      iexact H1
    isplitl [H2]
    · iexists _; isplitr; swap; · iexact H2
      ipureintro
      refine (View.read_writes_full _ _ _ _ _).trans ?_
      have hx : ∀ (R : Rect S16x4096), View.readAt (Elt F) arg0.view R.toLoadRect (harg0.unread x0) = fun i => x0 (R.emb i) :=
        fun R => funext fun i => harg0.readAt_unread x0 R.toLoadRect i
      unfold out acc2 acc0
      refine pay1_out (hx _) ?_ ((View.readCov_full _ _ _ _ _).trans ?_)
      · sl_unfold_run_names; rw [plane_hit arg4 _ (fun _ => rfl)]; rfl
      refine pay11_out (hx _) ?_ ((View.readCov_full _ _ _ _ _).trans ?_)
      · sl_unfold_run_names; rw [plane_miss arg4 _ _ _ _ 0 (by decide)]; rw [plane_hit arg4 _ (fun _ => rfl)]; rfl
      refine pay10_out (hx _) ?_ ((View.readCov_full _ _ _ _ _).trans ?_)
      · sl_unfold_run_names; rw [plane_miss arg4 _ _ _ _ 0 (by decide)]; rw [plane_miss arg4 _ _ _ _ 0 (by decide)]; rw [plane_hit arg4 _ (fun _ => rfl)]; rfl
      refine pay8_out (hx _) ?_ ((View.readCov_full _ _ _ _ _).trans ?_)
      · sl_unfold_run_names; rw [plane_miss arg4 _ _ _ _ 0 (by decide)]; rw [plane_miss arg4 _ _ _ _ 0 (by decide)]; rw [plane_miss arg4 _ _ _ _ 0 (by decide)]; rw [plane_hit arg4 _ (fun _ => rfl)]; rfl
      refine pay7_out (hx _) ?_ ((View.readCov_full _ _ _ _ _).trans ?_)
      · sl_unfold_run_names; rw [plane_miss arg4 _ _ _ _ 0 (by decide)]; rw [plane_miss arg4 _ _ _ _ 0 (by decide)]; rw [plane_miss arg4 _ _ _ _ 0 (by decide)]; rw [plane_hit arg4 _ (fun _ => rfl)]; rfl
      refine pay6_out (hx _) ?_ ((View.readCov_full _ _ _ _ _).trans ?_)
      · sl_unfold_run_names; rw [plane_miss arg4 _ _ _ _ 0 (by decide)]; rw [plane_miss arg4 _ _ _ _ 0 (by decide)]; rw [plane_miss arg4 _ _ _ _ 0 (by decide)]; rw [plane_hit arg4 _ (fun _ => rfl)]; rfl
      refine pay5_out (hx _) ?_ ((View.readCov_full _ _ _ _ _).trans ?_)
      · sl_unfold_run_names; rw [plane_miss arg4 _ _ _ _ 0 (by decide)]; rw [plane_miss arg4 _ _ _ _ 0 (by decide)]; rw [plane_miss arg4 _ _ _ _ 0 (by decide)]; rw [plane_hit arg4 _ (fun _ => rfl)]; rfl
      refine pay4_out (hx _) ?_ ((View.readCov_full _ _ _ _ _).trans ?_)
      · sl_unfold_run_names; rw [plane_miss arg4 _ _ _ _ 0 (by decide)]; rw [plane_miss arg4 _ _ _ _ 0 (by decide)]; rw [plane_miss arg4 _ _ _ _ 0 (by decide)]; rw [plane_hit arg4 _ (fun _ => rfl)]; rfl
      refine pay3_out (hx _) ?_ ((View.readCov_full _ _ _ _ _).trans ?_)
      · sl_unfold_run_names; rw [plane_miss arg4 _ _ _ _ 0 (by decide)]; rw [plane_miss arg4 _ _ _ _ 0 (by decide)]; rw [plane_miss arg4 _ _ _ _ 0 (by decide)]; rw [plane_hit arg4 _ (fun _ => rfl)]; rfl
      refine pay2_out (hx _) ?_ ((View.readAt_full _ _ _).trans (harg2.read_unread _))
      sl_unfold_run_names; rw [plane_miss arg4 _ _ _ _ 0 (by decide)]; rw [plane_miss arg4 _ _ _ _ 0 (by decide)]; rw [plane_miss arg4 _ _ _ _ 0 (by decide)]; rw [plane_hit arg4 _ (fun _ => rfl)]; rfl
    isplitl [HS0]
    · iexists _, _; isplitr; swap; · iexact HS0
      ipureintro; rfl
    isplitl [Hq0]; · iexact Hq0
    isplitl [Hq1]; · iexact Hq1
    isplitl [Hq2]; · iexact Hq2
    isplitl [Hq3]; · iexact Hq3
    isplitl [Hh0]; · iexact Hh0
    iexists _; iexact HW

end Cert.KernelIdeal.Layer

end
-- ==== Proof.Layer.Run.lean ====
/- The kernel's run: its one launch stages the input row block and the bias, calls the body, and writes the output block
   back, so every execution ends with the output array at the ten-block sum, the arguments as they were and every
   semaphore at zero. -/
module

public import proofs.«01_k».proof.Proof.Layer.Body
public import Idealize.ShloMosaic.Lib.Quiescent

@[expose] public section

set_option maxRecDepth 16384

noncomputable section

namespace Cert.KernelIdeal.Layer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body leaves in the output's staging buffer at point `t`. -/
def left (c : Dev nD) (t : Fin cfg0.N) : Vec F S16x4096 .f32 := out (iblk m c 0 t) (iblk m c 1 t) (V m c main_arg1)

/-- What the launch is stated over: the arrays as they stand when it starts; the inputs' buffers left as staged and
    the output's at the ten-block sum; nothing carried but the row buffers, the semaphores and the weights. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => left m c t
  Φ _ := Pipeline.ΦD osem spec0 hbmRefs (V m) c
  q _ := fullShare
  owed _ := 0

theorem dats_A (c : Dev nD) (w : Fin cfg0.W) : (dats m 0 c).A w = V m c (Pipeline.arrRef spec0 w) := by
  dsimp only [dats]
theorem after_x (c : Dev nD) (t : Fin cfg0.N) : (dats m 0 c).after 0 t = iblk m c 0 t := by dsimp only [dats]
theorem after_b (c : Dev nD) (t : Fin cfg0.N) : (dats m 0 c).after 1 t = iblk m c 1 t := by dsimp only [dats]
theorem after_o (c : Dev nD) (t : Fin cfg0.N) : (dats m 0 c).after 2 t = left m c t := by dsimp only [dats]

/-- The body finds each input's block staged. -/
theorem before_x (c : Dev nD) (t : Fin cfg0.N) (d) : (dats m 0 c).before 0 t d = iblk m c 0 t :=
  ((dats m 0 c).before_in_eq_fetched 0 rfl (fun _ => rfl) (fun _ _ _ => rfl)
    (fun t => by rw [after_x]; unfold Dat.blockOf iblk; rw [dats_A]) t d).trans
    (by unfold Dat.fetched Dat.blockOf iblk; rw [dats_A]; rfl)
theorem before_b (c : Dev nD) (t : Fin cfg0.N) (d) : (dats m 0 c).before 1 t d = iblk m c 1 t :=
  ((dats m 0 c).before_in_eq_fetched 1 rfl (fun _ => rfl) (fun _ _ _ => rfl)
    (fun t => by rw [after_b]; unfold Dat.blockOf iblk; rw [dats_A]) t d).trans
    (by unfold Dat.fetched Dat.blockOf iblk; rw [dats_A]; rfl)

/-- What the body is called with at point `t`, and what it returns. -/
def called (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stB t) fullShare ((dats m 0 c).before 1 t d))
    ∗ (∃ d, owns (c : Thread nD τ) (stO t) fullShare ((dats m 0 c).before 2 t d)))
def returned (c : Dev nD) (t : Fin cfg0.N) : sProp 𝕄 :=
  iprop((dats m 0 c).Φ t.succ ∗ (dats m 0 c).owesAt () t.succ
    ∗ owns (c : Thread nD τ) (stX t) fullShare ((dats m 0 c).after 0 t)
    ∗ owns (c : Thread nD τ) (stB t) fullShare ((dats m 0 c).after 1 t)
    ∗ owns (c : Thread nD τ) (stO t) fullShare ((dats m 0 c).after 2 t))

/-- The body at a point, from what it is called with to what it returns. -/
theorem body_point (c : Dev nD) (t : Fin cfg0.N) :
    called m c t ⊢ wp frame (wpE (defs₀ (F := F)) Variants.none c none) Set.univ (bodyAt0 t) (fun _ => returned m c t) := by
  unfold called returned bodyAt0
  simp only [before_x, before_b]
  rw [show (dats m 0 c).Φ t.succ = (dats m 0 c).Φ t.castSucc from rfl, after_x, after_b, after_o]
  rw [show (dats m 0 c).Φ t.castSucc = Pipeline.ΦD osem spec0 hbmRefs (V m) c from rfl, inv_eq]
  unfold Dat.owesAt Pipeline.owesWithin left
  rw [show (dats m 0 c).owed t.castSucc = 0 from rfl, show (dats m 0 c).owed t.succ = 0 from rfl]
  iintro ⟨⟨Hbuf, Hg, ⟨Hq0, Hq1, Hq2, Hq3⟩, Hw⟩, ⟨%W, -, HW⟩, ⟨%d0, Hx⟩, ⟨%d1, Hb⟩, ⟨%d2, Ho⟩⟩
  iapply (body_run c _ _ _ _ _ _ _ _ (iblk m c 0 t) (iblk m c 1 t) (V m c main_arg1) W _)
  isplitl [Hx]; · iexact Hx
  isplitl [Hb]; · iexact Hb
  isplitl [Ho]; · iexists _; iexact Ho
  isplitl [Hbuf]; · iexact Hbuf
  isplitl [Hq0]; · iexact Hq0
  isplitl [Hq1]; · iexact Hq1
  isplitl [Hq2]; · iexact Hq2
  isplitl [Hq3]; · iexact Hq3
  isplitl [Hw]; · iexact Hw
  isplitl [HW]; · iexact HW
  iintro ⟨Hx, Hb, Ho, Hbuf, Hq0, Hq1, Hq2, Hq3, Hw, ⟨%W', HW'⟩⟩
  isplitl [Hbuf Hg Hq0 Hq1 Hq2 Hq3 Hw]
  · isplitl [Hbuf]; · iexact Hbuf
    isplitl [Hg]; · iexact Hg
    isplitl [Hq0 Hq1 Hq2 Hq3]
    · isplitl [Hq0]; · iexact Hq0
      isplitl [Hq1]; · iexact Hq1
      isplitl [Hq2]; · iexact Hq2
      iexact Hq3
    iexact Hw
  isplitl [HW']
  · iexists W'; isplitr; · ipureintro; exact fun _ _ => Or.inl trivial
    iexact HW'
  isplitl [Hx]; · iexact Hx
  isplitl [Hb]; · iexact Hb
  iexact Ho

theorem defs_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs_row]
  exact triple_restated (body_point m c t) rfl .rfl fun _ => .rfl

/-- The host's part before the launch. -/
theorem host_prefix : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The run: the arrays as the launch's account says, every semaphore at zero. -/
theorem run_account : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem defs₀ Variants.none ownSemFacts hbmRefs hbmRefs_sub m ρ main
    (hbody := fun c => (body_obligation m c).loose) (hshare := fun c => (dats m 0 c).share_full fun _ => rfl)
    (howed := fun _ _ => rfl) (V := V m) (hmain := host_prefix m) (hA := dats_A m) (hin := fun _ => .rfl) (hout := fun _ => .rfl)

/-- The result array's final contents: the ten-block sum of the arguments, the bias reshaped to one row. -/
def result (c : Dev nD) : Buf (Elt F) ((c : Thread nD τ).loc main_v1) :=
  out (m ((c : Thread nD τ).loc main_arg0)) (V m c main_v0) (m ((c : Thread nD τ).loc main_arg1))

/-- Each window is its whole array: its block read off contents is those contents. -/
theorem block_x (c : Dev nD) (t : Fin cfg0.N) : iblk m c 0 t = m ((c : Thread nD τ).loc main_arg0) := by
  obtain rfl := fin_N0 t
  have hz : (fun a => win0_0.index t0_0 a * main_arg0.ty.shape.size a) = fun _ => 0 := funext fun a => by fin_cases a <;> decide
  exact (Memref.read_access_unit_zero (Elt F) main_arg0 hz (fun a => by rw [congrFun hz a]; simp) (V m c main_arg0)).trans (V_main_arg0 m c)
theorem block_b (c : Dev nD) (t : Fin cfg0.N) : iblk m c 1 t = V m c main_v0 := by
  obtain rfl := fin_N0 t
  have hz : (fun a => win0_1.index t0_0 a * main_v0.ty.shape.size a) = fun _ => 0 := funext fun a => by fin_cases a <;> decide
  exact Memref.read_access_unit_zero (Elt F) main_v0 hz (fun a => by rw [congrFun hz a]; simp) (V m c main_v0)

/-- What the launch writes back is the result, over the whole array. -/
theorem written_back (c : Dev nD) (t : Fin cfg0.N) (_ : (cfg0.win 2).flush t = true) :
    (dats m 0 c).flushed 2 t = ((cfg0.win 2).blk t).view.read (Elt F) (result m c) := by
  obtain rfl := fin_N0 t
  show (cfg0.win 2).cut (grid0.coords t0_0) ((dats m 0 c).after 2 t0_0) = _
  rw [after_o, left, block_x, block_b, V_main_arg1]
  have hz : (fun a => win0_2.index t0_0 a * main_v1.ty.shape.size a) = fun _ => 0 := funext fun a => by fin_cases a <;> decide
  exact (Memref.read_access_unit_zero (Elt F) main_v1 hz (fun a => by rw [congrFun hz a]; simp) (result m c)).symm

theorem final_out (c : Dev nD) : (dats m 0 c).arrAt 2 cfg0.N = result m c :=
  (dats m 0 c).arrAt_eq_of_cover 2 (result m c) (written_back m c) fun i =>
    ⟨t0_0, flush0_2 t0_0, by
      show i ∈ ((View.whole main_v1).slice (win0_2.rect t0_0)).set
      rw [View.set_slice_whole, Rect.mem_set_unit]
      intro a
      have hz : win0_2.index t0_0 a * main_v1.ty.shape.size a = 0 := by fin_cases a <;> decide
      have := (i a).isLt
      exact ⟨hz.le.trans (Nat.zero_le _), this.trans_le (Nat.le_add_left (main_v1.ty.shape.size a) _)⟩⟩

/-- The run, read: the result, the arguments unchanged, every semaphore at zero. -/
theorem run : θ_run defs (onTc (τ := τ) (main (F := F))) ⟨m, fun _ => 0, ρ⟩ fun r => (∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => ⟨((h.1 c).1 2).trans (final_out m c),
      ((h.1 c).1 0).trans (((dats m 0 c).arrAt_in 0 rfl _).trans ((dats_A m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)
    (run_account m ρ)

end Cert.KernelIdeal.Layer

end
-- ==== Proof.Layer.Printed.lean ====
/- The kernel as printed. Its ideal reading has the same text, so a run of that text, proved for any floats, is a run of
   the printed kernel too. -/
module

public import proofs.«01_k».proof.Proof.Gen.Kernel
public import proofs.«01_k».proof.Proof.Layer.Run

@[expose] public section

set_option maxRecDepth 16384

noncomputable section

namespace Cert.Kernel.Layer

open Cert.Kernel Cert.Kernel.Gen
open Idealize.ShloMosaic Idealize.ShloMosaic.TcCoe Idealize.SL.Sem

variable {F : FTy → Type} [FloatOps F]

/-- The two texts name the same program, piece by piece: the kernel's body, the table that holds it, the table with the
    launch's region, the host's part. -/
theorem body_eq : @cc0__masked_linear_kernel F _ _ = @Cert.KernelIdeal.cc0__masked_linear_kernel F _ _ := rfl
theorem defs₀_eq : defs₀ (F := F) = Cert.KernelIdeal.defs₀ (F := F) := by
  unfold defs₀ Cert.KernelIdeal.defs₀
  refine congrArg Defs.onTc (funext fun l => ?_)
  match l with
  | 0 => rw [body_eq]; rfl
theorem defs_eq : defs (F := F) = Cert.KernelIdeal.defs (F := F) := by
  unfold defs Cert.KernelIdeal.defs
  rw [defs₀_eq]
  rfl
theorem main_eq : main (F := F) = Cert.KernelIdeal.main (F := F) := rfl

/-- The printed kernel runs, leaves its arguments alone and every semaphore at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 := by
  rw [defs_eq, main_eq]
  exact (θ_run Cert.KernelIdeal.defs _ _).mono (fun _ h => ⟨fun c => (h.1 c).2, h.2⟩) (Cert.KernelIdeal.Layer.run (F := F) m ρ)

end Cert.Kernel.Layer

end
-- ==== Proof.Layer.Algebra.lean ====
/- The ten block products sum to the one product: over the extended reals a sum of 4096 terms is the sum of its ten
   stretches, wherever among them the bias is added. -/
module

public import proofs.«01_k».proof.Proof.Layer.Out
public import Idealize.ShloMosaic.Lib.MatmulPlain

@[expose] public section

set_option maxRecDepth 16384

noncomputable section

namespace Cert.KernelIdeal.Layer

open Cert.KernelIdeal.Gen
open Idealize.ShloMosaic Idealize.ShloMosaic.TcCoe Idealize.ShloMosaic.ValueIdx

/-- The `k`-th term of the product at row `r`, column `q`; nothing past the last. -/
def term (x : Vec Ideal S16x4096 .f32) (w : Vec Ideal S4096x4096 .f32) (r : Fin 16) (q : Fin 4096) (k : ℕ) : EReal :=
  if h : k < 4096 then x (ix2 r ⟨k, h⟩) * w (ix2 ⟨k, h⟩ q) else 0

/-- Terms `k` to `k + n`, summed. -/
def stretch (x : Vec Ideal S16x4096 .f32) (w : Vec Ideal S4096x4096 .f32) (r : Fin 16) (q : Fin 4096) (k n : ℕ) : EReal :=
  ∑ j ∈ Finset.range n, term x w r q (k + j)

variable (x : Vec Ideal S16x4096 .f32) (b : Vec Ideal S1x4096 .f32) (w : Vec Ideal S4096x4096 .f32) (r : Fin 16) (q : Fin 4096)

/-- A block product's sum over its own rows is a stretch. -/
theorem block_eq_stretch {k n : ℕ} (hn : k + n ≤ 4096) (A B : Fin n → EReal)
    (hA : ∀ j : Fin n, A j = x (ix2 r ⟨k + j, by omega⟩)) (hB : ∀ j : Fin n, B j = w (ix2 ⟨k + j, by omega⟩ q)) :
    ∑ j : Fin n, A j * B j = stretch x w r q k n := by
  unfold stretch
  rw [← Fin.sum_univ_eq_sum_range (fun j => term x w r q (k + j)) n]
  refine Finset.sum_congr rfl fun j _ => ?_
  rw [hA, hB, term, dif_pos (by omega)]

/-- The index a rectangle of columns from `k` gives to `(r, j)`, and one of rows from `k` to `(j, q)`. -/
theorem cols_idx {n k : ℕ} (h : ∀ a, (![0, k] : Fin 2 → ℕ) a + (⟨2, ![16, n]⟩ : Shape).size a ≤ S16x4096.size a) (j : Fin n) (hk : k + j.val < 4096) :
    (Rect.unit (s := S16x4096) ![0, k] (⟨2, ![16, n]⟩ : Shape).size h).emb (ix2 r j) = ix2 r ⟨k + j, hk⟩ := by
  funext a; apply Fin.ext
  match a with
  | ⟨0, _⟩ => show 0 + 1 * r.val = r.val; omega
  | ⟨1, _⟩ => show k + 1 * j.val = k + j.val; omega
theorem rows_idx {n k : ℕ} (h : ∀ a, (![k, 0] : Fin 2 → ℕ) a + (⟨2, ![n, 4096]⟩ : Shape).size a ≤ S4096x4096.size a) (j : Fin n) (hk : k + j.val < 4096) :
    (Rect.unit (s := S4096x4096) ![k, 0] (⟨2, ![n, 4096]⟩ : Shape).size h).emb (ix2 j q) = ix2 ⟨k + j, hk⟩ q := by
  funext a; apply Fin.ext
  match a with
  | ⟨0, _⟩ => show k + 1 * j.val = k + j.val; omega
  | ⟨1, _⟩ => show 0 + 1 * q.val = q.val; omega

theorem zero_acc : (constant S16x4096 .f32 0x00000000#32 : FVec Ideal S16x4096 .f32) (ix2 r q) = 0 := Ideal.ofBits_zero_f32

theorem prod128_apply (k : ℕ) (h h') (hk : k + 128 ≤ 4096) :
    prod128 (cols128 x k h) (rows128 w k h') (ix2 r q) = stretch x w r q k 128 := by
  refine (Ideal.matmul_plain_apply (M := 16) (K := 128) (N := 4096) none _ _ _ r q).trans ?_
  rw [zero_acc, zero_add]
  exact block_eq_stretch x w r q hk _ _ (fun j => congrArg x (cols_idx r h j _)) (fun j => congrArg w (rows_idx q h' j _))
theorem prod256_apply (k : ℕ) (h h') (hk : k + 256 ≤ 4096) :
    prod256 (cols256 x k h) (rows256 w k h') (ix2 r q) = stretch x w r q k 256 := by
  refine (Ideal.matmul_plain_apply (M := 16) (K := 256) (N := 4096) none _ _ _ r q).trans ?_
  rw [zero_acc, zero_add]
  exact block_eq_stretch x w r q hk _ _ (fun j => congrArg x (cols_idx r h j _)) (fun j => congrArg w (rows_idx q h' j _))
theorem prod512_apply (k : ℕ) (h h') (hk : k + 512 ≤ 4096) :
    prod512 (cols512 x k h) (rows512 w k h') (ix2 r q) = stretch x w r q k 512 := by
  refine (Ideal.matmul_plain_apply (M := 16) (K := 512) (N := 4096) none _ _ _ r q).trans ?_
  rw [zero_acc, zero_add]
  exact block_eq_stretch x w r q hk _ _ (fun j => congrArg x (cols_idx r h j _)) (fun j => congrArg w (rows_idx q h' j _))

/-- Two stretches end to end are one. -/
theorem stretch_add (n n' : ℕ) : stretch x w r q 0 n + stretch x w r q n n' = stretch x w r q 0 (n + n') := by
  unfold stretch
  rw [Finset.sum_range_add]
  simp only [Nat.zero_add]

/-- All the terms. -/
theorem stretch_all : stretch x w r q 0 4096 = ∑ k : Fin 4096, x (ix2 r k) * w (ix2 k q) :=
  (block_eq_stretch x w r q (k := 0) (n := 4096) le_rfl _ _
    (fun j => congrArg x (congrArg (ix2 r) (Fin.ext (Nat.zero_add _).symm)))
    (fun j => congrArg w (congrArg (fun i => ix2 i q) (Fin.ext (Nat.zero_add _).symm)))).symm

/-- The bias row under row `r`. -/
theorem bias_apply : broadcastTo S16x4096 b broadcasts_S1x4096_S16x4096 (ix2 r q) = b (ix2 0 q) :=
  broadcastTo_apply b _ _ _ fun a => by
    match a with
    | ⟨0, _⟩ => rfl
    | ⟨1, _⟩ => rfl

/-- What the kernel leaves, at an index: the whole product and the bias. -/
theorem out_apply : out x b w (ix2 r q) = (∑ k : Fin 4096, x (ix2 r k) * w (ix2 k q)) + b (ix2 0 q) := by
  unfold out acc2 acc0
  show _ + _ + _ + _ + _ + _ + _ + _ + _ + _ + _ = _
  rw [prod128_apply _ _ _ _ _ _ _ (by decide), prod128_apply _ _ _ _ _ _ _ (by decide), prod256_apply _ _ _ _ _ _ _ (by decide)]
  repeat rw [prod512_apply _ _ _ _ _ _ _ (by decide)]
  rw [bias_apply]
  repeat rw [add_right_comm _ (b (ix2 0 q))]
  repeat rw [stretch_add]
  exact congrArg (· + b (ix2 0 q)) (stretch_all x w r q)

end Cert.KernelIdeal.Layer

end
-- ==== Proof.Layer.Linear.lean ====
/- The kernel's result against the reference's, index by index, when the mask leaves the weights as they are. -/
module

public import proofs.«01_k».proof.Proof.Layer.Run
public import proofs.«01_k».proof.Proof.Layer.Algebra
public import proofs.«01_k».proof.Proof.Gen.ReferenceIdeal.Run
public import Idealize.ShloMosaic.Lib.StackMember

@[expose] public section

set_option maxRecDepth 16384

noncomputable section

namespace Cert.KernelIdeal.Layer

open Cert.KernelIdeal.Gen
open Idealize.ShloMosaic Idealize.ShloMosaic.TcCoe Idealize.ShloMosaic.ValueIdx Idealize.ShloMosaic.StableHlo

/-- The reference's result as a function of its arguments. -/
def layer (x : FVec Ideal S16x4096 .f32) (w k : FVec Ideal S4096x4096 .f32) (b : FVec Ideal S4096 .f32) : FVec Ideal S16x4096 .f32 :=
  addf (Host.dotGeneral Cert.ReferenceIdeal.dot_S16x4096_S4096x4096_S16x4096_1_0_0_1_n_n none x (mulf w k))
    (broadcastInDim S16x4096 ![0, 1] Cert.ReferenceIdeal.Gen.bcast_S1x4096_S16x4096_0_1
      (broadcastInDim S1x4096 ![1] Cert.ReferenceIdeal.Gen.bcast_S4096_S1x4096_1 b))

/-- The reference's bias at an index. -/
theorem layer_bias (b : FVec Ideal S4096 .f32) (r : Fin 16) (q : Fin 4096) (h h') :
    broadcastInDim S16x4096 ![0, 1] h (broadcastInDim S1x4096 ![1] h' b) (ix2 r q) = b (ix1 q) :=
  (broadcastInDim_apply ![0, 1] h (broadcastInDim S1x4096 ![1] h' b) (ix2 r q) (ix2 (0 : Fin 1) q) fun a => by
    match a with
    | ⟨0, _⟩ => rfl
    | ⟨1, _⟩ => rfl).trans
  (broadcastInDim_apply ![1] h' b (ix2 (0 : Fin 1) q) (ix1 q) fun a => by
    match a with
    | ⟨0, _⟩ => rfl)

/-- The reference's result at an index, for weights the mask leaves as they are. -/
theorem layer_apply (x : FVec Ideal S16x4096 .f32) (w k : FVec Ideal S4096x4096 .f32) (b : FVec Ideal S4096 .f32)
    (hw : mulf w k = w) (r : Fin 16) (q : Fin 4096) :
    layer x w k b (ix2 r q) = (∑ j : Fin 4096, x (ix2 r j) * w (ix2 j q)) + b (ix1 q) := by
  unfold layer
  rw [hw]
  exact congrArg₂ (fun a c : EReal => a + c) (StackMember.dotGeneral_plain_apply (m := 16) (k := 4096) (n := 4096) none x w r q)
    (layer_bias b r q _ _)

variable (m : (ℓ : Loc nD τ sig) → Buf (Elt Ideal) ℓ)

/-- The bias as the launch finds it: one row. -/
theorem bias_row (c : Dev nD) :
    V m c main_v0 = shapeCast S1x4096 (m ((c : Thread nD τ).loc main_arg3)) shapeCasts_S4096_S1x4096 := by
  unfold V hostOps0
  after_results
  rfl
theorem bias_row_apply (b : FVec Ideal S4096 .f32) (q : Fin 4096) (h : S4096.ShapeCasts S1x4096) :
    shapeCast S1x4096 b h (ix2 (0 : Fin 1) q) = b (ix1 q) :=
  shapeCast_apply b h _ _ (by
    rw [Shape.rowMajor_val_one, Shape.rowMajor_val_two]
    show q.val = 0 * 4096 + q.val
    omega)

/-- The kernel's result is the reference's. -/
theorem result_eq (c : Dev nD)
    (hw : mulf (F := Ideal) (s := S4096x4096) (φ := .f32) (m ((c : Thread nD τ).loc main_arg1)) (m ((c : Thread nD τ).loc main_arg2)) = m ((c : Thread nD τ).loc main_arg1)) :
    layer (m ((c : Thread nD τ).loc main_arg0)) (m ((c : Thread nD τ).loc main_arg1)) (m ((c : Thread nD τ).loc main_arg2))
      (m ((c : Thread nD τ).loc main_arg3)) = result m c := by
  funext i
  obtain ⟨r, q, rfl⟩ : ∃ (r : Fin 16) (q : Fin 4096), i = ix2 r q := ⟨_, _, eq_ix2 i⟩
  unfold result
  rw [layer_apply _ _ _ _ hw, bias_row]
  exact ((out_apply _ _ _ r q).trans (congrArg _ (bias_row_apply _ q _))).symm

end Cert.KernelIdeal.Layer

end
-- ==== Proof.Layer.Pruned.lean ====
/- The precondition read back: weights the mask leaves as they are. -/
module

public import proofs.«01_k».proof.Proof.Gen.Pre_pruned
public import Idealize.ShloMosaic.Lib.ReduceAll
public import Idealize.ShloMosaic.Lib.WordArith
public import Idealize.ShloMosaic.PureOps.Ideal
public import Idealize.ShloMosaic.Lib.ValueIdxCore

@[expose] public section

set_option maxRecDepth 16384

noncomputable section

namespace Cert.Pre_pruned.Layer

open Cert.Pre_pruned Cert.Pre_pruned.Gen
open Idealize.ShloMosaic

/-- One test of all elements that comes out true makes each product of weight and mask the weight. -/
theorem masked_eq (x : FVec Ideal S16x4096 .f32) (w k : FVec Ideal S4096x4096 .f32) (b : FVec Ideal S4096 .f32)
    (h : fn x w k b = fun _ => 1#1) : mulf w k = w := by
  have : Subsingleton S_.Idx := ⟨fun i j => funext fun a => a.elim0⟩
  funext i
  have h0 := congrFun h ValueIdx.ix0
  unfold fn at h0
  have e := Host.reduce_andi_all _ _ _ _ _ h0 i
  exact of_decide_eq_true ((Idealize.ShloMosaic.WordArith.ofBool_eq_one_iff _).1 e)

end Cert.Pre_pruned.Layer

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pruned
public import proofs.«01_k».proof.Proof.Gen.ReferenceIdeal.Run
public import proofs.«01_k».proof.Proof.Layer.Run
public import proofs.«01_k».proof.Proof.Layer.Printed
public import proofs.«01_k».proof.Proof.Layer.Linear
public import proofs.«01_k».proof.Proof.Layer.Pruned
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at the extended reals: it runs, leaves its arguments alone and every semaphore at zero. -/
theorem frame_kernelIdeal : Cert.quiescent_KernelIdeal := fun m ρ _ =>
  (θ_run Cert.KernelIdeal.defs _ _).mono (fun _ h => ⟨fun c => (h.1 c).2, h.2⟩) (Cert.KernelIdeal.Layer.run (F := Ideal) m ρ)

/-- The reference at the extended reals, likewise; it has no semaphores. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two end with equal results when the mask leaves the weights as they are. -/
theorem algebraic : Cert.algebraic_KernelIdeal_ReferenceIdeal_pre_pruned := by
  intro m ρ m' ρ' hpre hagree
  refine ⟨fun c => Cert.KernelIdeal.Layer.result m c,
    (θ_run Cert.KernelIdeal.defs _ _).mono (fun _ h => h.1) (Cert.KernelIdeal.Layer.run (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨h0, h1, h2, h3⟩ := hagree c
  rw [h0, h1, h2, h3]
  exact Cert.KernelIdeal.Layer.result_eq m c (Cert.Pre_pruned.Layer.masked_eq _ _ _ _ (hpre c))

theorem claim : Cert.Claim := ⟨Cert.Kernel.Gen.facts, Cert.KernelIdeal.Gen.facts, Cert.ReferenceIdeal.Gen.facts, Cert.Pre_pruned.Gen.facts,
  fun m ρ _ => Cert.Kernel.Layer.frame m ρ,
  frame_kernelIdeal,
  fun m ρ _ => frame_kernelIdeal m ρ trivial,
  frame_referenceIdeal,
  fun m ρ _ => frame_referenceIdeal m ρ trivial,
  trivial,
  algebraic⟩

end Cert.Proof

end
